-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x50x50 : Shape := ⟨4, ![1, 512, 50, 50]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S512x50x50 : Shape := ⟨3, ![512, 50, 50]⟩
abbrev S_ : Shape := ⟨0, ![]⟩
abbrev S512x53x52 : Shape := ⟨3, ![512, 53, 52]⟩
abbrev S512x2756 : Shape := ⟨2, ![512, 2756]⟩
abbrev S512x512x9 : Shape := ⟨3, ![512, 512, 9]⟩
abbrev S9x512x512 : Shape := ⟨3, ![9, 512, 512]⟩
abbrev S36x512 : Shape := ⟨2, ![36, 512]⟩
abbrev S18x512 : Shape := ⟨2, ![18, 512]⟩
abbrev S1x512 : Shape := ⟨2, ![1, 512]⟩
abbrev S1x36 : Shape := ⟨2, ![1, 36]⟩
abbrev S1x18 : Shape := ⟨2, ![1, 18]⟩
abbrev S2500x36 : Shape := ⟨2, ![2500, 36]⟩
abbrev S2500x18 : Shape := ⟨2, ![2500, 18]⟩
abbrev S512x2600 : Shape := ⟨2, ![512, 2600]⟩
abbrev S1x512x512 : Shape := ⟨3, ![1, 512, 512]⟩
abbrev S512x512 : Shape := ⟨2, ![512, 512]⟩
abbrev S512x1 : Shape := ⟨2, ![512, 1]⟩
abbrev S54x512 : Shape := ⟨2, ![54, 512]⟩
abbrev S1x54 : Shape := ⟨2, ![1, 54]⟩
abbrev S54x1 : Shape := ⟨2, ![54, 1]⟩
abbrev S54x2600 : Shape := ⟨2, ![54, 2600]⟩
abbrev S2600x54 : Shape := ⟨2, ![2600, 54]⟩
abbrev S50x54 : Shape := ⟨2, ![50, 54]⟩
abbrev S2500x54 : Shape := ⟨2, ![2500, 54]⟩
abbrev S1x22500x4 : Shape := ⟨3, ![1, 22500, 4]⟩
abbrev S1x22500x2 : Shape := ⟨3, ![1, 22500, 2]⟩

abbrev nBuf : Space → Nat
  | .hbm => 28
  | .vmem => 9
  | .smem => 0
  | _ => 0

abbrev bufTy : (tb : Table) → Fin (tcTables nBuf tb) → BufTy
  | .hbm, ⟨0, _⟩ => ⟨S1x512x50x50, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S512x50x50, .f32⟩
  | .hbm, ⟨8, _⟩ => ⟨S512x50x50, .bf16⟩
  | .hbm, ⟨9, _⟩ => ⟨S_, .bf16⟩
  | .hbm, ⟨10, _⟩ => ⟨S512x53x52, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S512x53x52, .bf16⟩
  | .hbm, ⟨15, _⟩ => ⟨S512x2756, .bf16⟩
  | .hbm, ⟨16, _⟩ => ⟨S512x512x3x3, .bf16⟩
  | .hbm, ⟨17, _⟩ => ⟨S512x512x9, .bf16⟩
  | .hbm, ⟨18, _⟩ => ⟨S9x512x512, .bf16⟩
  | .hbm, ⟨19, _⟩ => ⟨S36x512, .f32⟩
  | .hbm, ⟨20, _⟩ => ⟨S18x512, .f32⟩
  | .hbm, ⟨21, _⟩ => ⟨S1x512, .f32⟩
  | .hbm, ⟨22, _⟩ => ⟨S1x36, .f32⟩
  | .hbm, ⟨23, _⟩ => ⟨S1x18, .f32⟩
  | .hbm, ⟨24, _⟩ => ⟨S2500x36, .f32⟩
  | .hbm, ⟨25, _⟩ => ⟨S2500x18, .f32⟩
  | .hbm, ⟨26, _⟩ => ⟨S1x22500x4, .f32⟩
  | .hbm, ⟨27, _⟩ => ⟨S1x22500x2, .f32⟩
  | .local _ .vmem, ⟨0, _⟩ => ⟨S512x2756, .bf16⟩
  | .local _ .vmem, ⟨1, _⟩ => ⟨S9x512x512, .bf16⟩
  | .local _ .vmem, ⟨2, _⟩ => ⟨S36x512, .f32⟩
  | .local _ .vmem, ⟨3, _⟩ => ⟨S18x512, .f32⟩
  | .local _ .vmem, ⟨4, _⟩ => ⟨S1x512, .f32⟩
  | .local _ .vmem, ⟨5, _⟩ => ⟨S1x36, .f32⟩
  | .local _ .vmem, ⟨6, _⟩ => ⟨S1x18, .f32⟩
  | .local _ .vmem, ⟨7, _⟩ => ⟨S2500x36, .f32⟩
  | .local _ .vmem, ⟨8, _⟩ => ⟨S2500x18, .f32⟩
  | _, _ => ⟨S1x512x50x50, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x2756 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S18x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x36 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2500x36 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2500x18 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S1x512x50x50 : Shape := ⟨4, ![1, 512, 50, 50]⟩
abbrev S512x512x3x3 : Shape := ⟨4, ![512, 512, 3, 3]⟩
abbrev S512 : Shape := ⟨1, ![512]⟩
abbrev S18x512x1x1 : Shape := ⟨4, ![18, 512, 1, 1]⟩
abbrev S18 : Shape := ⟨1, ![18]⟩
abbrev S36x512x1x1 : Shape := ⟨4, ![36, 512, 1, 1]⟩
abbrev S36 : Shape := ⟨1, ![36]⟩
abbrev S_ : Shape := ⟨0, ![]⟩
abbrev S1x512x52x52 : Shape := ⟨4, ![1, 512, 52, 52]⟩
abbrev S512x512x1x1 : Shape := ⟨4, ![512, 512, 1, 1]⟩
abbrev S512x512 : Shape := ⟨2, ![512, 512]⟩
abbrev S1x50x50x512 : Shape := ⟨4, ![1, 50, 50, 512]⟩
abbrev S1x512x1x1 : Shape := ⟨4, ![1, 512, 1, 1]⟩
abbrev S36x512 : Shape := ⟨2, ![36, 512]⟩
abbrev S1x50x50x36 : Shape := ⟨4, ![1, 50, 50, 36]⟩
abbrev S1x36x50x50 : Shape := ⟨4, ![1, 36, 50, 50]⟩
abbrev S1x36x1x1 : Shape := ⟨4, ![1, 36, 1, 1]⟩
abbrev S18x512 : Shape := ⟨2, ![18, 512]⟩
abbrev S1x50x50x18 : Shape := ⟨4, ![1, 50, 50, 18]⟩
abbrev S1x18x50x50 : Shape := ⟨4, ![1, 18, 50, 50]⟩
abbrev S1x18x1x1 : Shape := ⟨4, ![1, 18, 1, 1]⟩
abbrev S1x22500x4 : Shape := ⟨3, ![1, 22500, 4]⟩
abbrev S1x22500x2 : Shape := ⟨3, ![1, 22500, 2]⟩

abbrev nBuf : Space → Nat
  | .hbm => 88
  | .vmem => 0
  | .smem => 0
  | _ => 0

abbrev bufTy : (tb : Table) → Fin (tcTables nBuf tb) → BufTy
  | .hbm, ⟨0, _⟩ => ⟨S1x512x50x50, .f32⟩
  | .hbm, ⟨1, _⟩ => ⟨S512x512x3x3, .f32⟩
  | .hbm, ⟨2, _⟩ => ⟨S512, .f32⟩
  | .hbm, ⟨3, _⟩ => ⟨S18x512x1x1, .f32⟩
  | .hbm, ⟨4, _⟩ => ⟨S18, .f32⟩
  | .hbm, ⟨5, _⟩ => ⟨S36x512x1x1, .f32⟩
  | .hbm, ⟨6, _⟩ => ⟨S36, .f32⟩
  | .hbm, ⟨7, _⟩ => ⟨S_, .i32⟩
  | .hbm, ⟨8, _⟩ => ⟨S_, .f32⟩
  | .hbm, ⟨9, _⟩ => ⟨S1x512x52x52, .f32⟩
  | .hbm, ⟨10, _⟩ => ⟨S_, .f32⟩
  | .hbm, ⟨11, _⟩ => ⟨S1x512x50x50, .f32⟩
  | .hbm, ⟨12, _⟩ => ⟨S512x512x1x1, .f32⟩
  | .hbm, ⟨13, _⟩ => ⟨S512x512, .f32⟩
  | .hbm, ⟨14, _⟩ => ⟨S1x512x50x50, .f32⟩
  | .hbm, ⟨15, _⟩ => ⟨S1x50x50x512, .f32⟩
  | .hbm, ⟨16, _⟩ => ⟨S1x512x50x50, .f32⟩
  | .hbm, ⟨17, _⟩ => ⟨S1x512x50x50, .f32⟩
  | .hbm, ⟨18, _⟩ => ⟨S512x512x1x1, .f32⟩
  | .hbm, ⟨19, _⟩ => ⟨S512x512, .f32⟩
  | .hbm, ⟨20, _⟩ => ⟨S1x512x50x50, .f32⟩
  | .hbm, ⟨21, _⟩ => ⟨S1x50x50x512, .f32⟩
  | .hbm, ⟨22, _⟩ => ⟨S1x512x50x50, .f32⟩
  | .hbm, ⟨23, _⟩ => ⟨S1x512x50x50, .f32⟩
  | .hbm, ⟨24, _⟩ => ⟨S512x512x1x1, .f32⟩
  | .hbm, ⟨25, _⟩ => ⟨S512x512, .f32⟩
  | .hbm, ⟨26, _⟩ => ⟨S1x512x50x50, .f32⟩
  | .hbm, ⟨27, _⟩ => ⟨S1x50x50x512, .f32⟩
  | .hbm, ⟨28, _⟩ => ⟨S1x512x50x50, .f32⟩
  | .hbm, ⟨29, _⟩ => ⟨S1x512x50x50, .f32⟩
  | .hbm, ⟨30, _⟩ => ⟨S512x512x1x1, .f32⟩
  | .hbm, ⟨31, _⟩ => ⟨S512x512, .f32⟩
  | .hbm, ⟨32, _⟩ => ⟨S1x512x50x50, .f32⟩
  | .hbm, ⟨33, _⟩ => ⟨S1x50x50x512, .f32⟩
  | .hbm, ⟨34, _⟩ => ⟨S1x512x50x50, .f32⟩
  | .hbm, ⟨35, _⟩ => ⟨S1x512x50x50, .f32⟩
  | .hbm, ⟨36, _⟩ => ⟨S512x512x1x1, .f32⟩
  | .hbm, ⟨37, _⟩ => ⟨S512x512, .f32⟩
  | .hbm, ⟨38, _⟩ => ⟨S1x512x50x50, .f32⟩
  | .hbm, ⟨39, _⟩ => ⟨S1x50x50x512, .f32⟩
  | .hbm, ⟨40, _⟩ => ⟨S1x512x50x50, .f32⟩
  | .hbm, ⟨41, _⟩ => ⟨S1x512x50x50, .f32⟩
  | .hbm, ⟨42, _⟩ => ⟨S512x512x1x1, .f32⟩
  | .hbm, ⟨43, _⟩ => ⟨S512x512, .f32⟩
  | .hbm, ⟨44, _⟩ => ⟨S1x512x50x50, .f32⟩
  | .hbm, ⟨45, _⟩ => ⟨S1x50x50x512, .f32⟩
  | .hbm, ⟨46, _⟩ => ⟨S1x512x50x50, .f32⟩
  | .hbm, ⟨47, _⟩ => ⟨S1x512x50x50, .f32⟩
  | .hbm, ⟨48, _⟩ => ⟨S512x512x1x1, .f32⟩
  | .hbm, ⟨49, _⟩ => ⟨S512x512, .f32⟩
  | .hbm, ⟨50, _⟩ => ⟨S1x512x50x50, .f32⟩
  | .hbm, ⟨51, _⟩ => ⟨S1x50x50x512, .f32⟩
  | .hbm, ⟨52, _⟩ => ⟨S1x512x50x50, .f32⟩
  | .hbm, ⟨53, _⟩ => ⟨S1x512x50x50, .f32⟩
  | .hbm, ⟨54, _⟩ => ⟨S512x512x1x1, .f32⟩
  | .hbm, ⟨55, _⟩ => ⟨S512x512, .f32⟩
  | .hbm, ⟨56, _⟩ => ⟨S1x512x50x50, .f32⟩
  | .hbm, ⟨57, _⟩ => ⟨S1x50x50x512, .f32⟩
  | .hbm, ⟨58, _⟩ => ⟨S1x512x50x50, .f32⟩
  | .hbm, ⟨59, _⟩ => ⟨S1x512x50x50, .f32⟩
  | .hbm, ⟨60, _⟩ => ⟨S512x512x1x1, .f32⟩
  | .hbm, ⟨61, _⟩ => ⟨S512x512, .f32⟩
  | .hbm, ⟨62, _⟩ => ⟨S1x512x50x50, .f32⟩
  | .hbm, ⟨63, _⟩ => ⟨S1x50x50x512, .f32⟩
  | .hbm, ⟨64, _⟩ => ⟨S1x512x50x50, .f32⟩
  | .hbm, ⟨65, _⟩ => ⟨S1x512x50x50, .f32⟩
  | .hbm, ⟨66, _⟩ => ⟨S1x512x1x1, .f32⟩
  | .hbm, ⟨67, _⟩ => ⟨S1x512x50x50, .f32⟩
  | .hbm, ⟨68, _⟩ => ⟨S1x512x50x50, .f32⟩
  | .hbm, ⟨69, _⟩ => ⟨S_, .f32⟩
  | .hbm, ⟨70, _⟩ => ⟨S1x512x50x50, .f32⟩
  | .hbm, ⟨71, _⟩ => ⟨S1x512x50x50, .f32⟩
  | .hbm, ⟨72, _⟩ => ⟨S36x512, .f32⟩
  | .hbm, ⟨73, _⟩ => ⟨S1x50x50x36, .f32⟩
  | .hbm, ⟨74, _⟩ => ⟨S1x36x50x50, .f32⟩
  | .hbm, ⟨75, _⟩ => ⟨S1x36x1x1, .f32⟩
  | .hbm, ⟨76, _⟩ => ⟨S1x36x50x50, .f32⟩
  | .hbm, ⟨77, _⟩ => ⟨S1x36x50x50, .f32⟩
  | .hbm, ⟨78, _⟩ => ⟨S18x512, .f32⟩
  | .hbm, ⟨79, _⟩ => ⟨S1x50x50x18, .f32⟩
  | .hbm, ⟨80, _⟩ => ⟨S1x18x50x50, .f32⟩
  | .hbm, ⟨81, _⟩ => ⟨S1x18x1x1, .f32⟩
  | .hbm, ⟨82, _⟩ => ⟨S1x18x50x50, .f32⟩
  | .hbm, ⟨83, _⟩ => ⟨S1x18x50x50, .f32⟩
  | .hbm, ⟨84, _⟩ => ⟨S1x50x50x36, .f32⟩
  | .hbm, ⟨85, _⟩ => ⟨S1x22500x4, .f32⟩
  | .hbm, ⟨86, _⟩ => ⟨S1x50x50x18, .f32⟩
  | .hbm, ⟨87, _⟩ => ⟨S1x22500x2, .f32⟩
  | _, _ => ⟨S1x512x50x50, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_0 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩

abbrev nD : Nat := 1
abbrev τ : Topo := Topo.v7x

variable {F : FTy → Type} [FloatOps F]
-- ==== Proof.Spec.lean ====
/- The mathematics both programs compute, as functions of the argument arrays: a 3×3 convolution with one pixel of
   zero padding and a bias, its positive part, and one output channel of a 1×1 convolution over that. -/
module

public import Idealize.ShloMosaic.Lib.Pointwise

@[expose] public section

noncomputable section

namespace Cert.Proof.Spec

open Idealize.ShloMosaic Idealize.ShloMosaic.TcCoe Idealize.SL.Sem

/-- The image: one batch of 512 channels of 50×50 pixels. -/
abbrev Img : Shape := ⟨4, ![1, 512, 50, 50]⟩
/-- The 3×3 weights: output channel, input channel, row, column. -/
abbrev Ker : Shape := ⟨4, ![512, 512, 3, 3]⟩

/-- The image with a border of one zero pixel, at row `r` and column `s` of the bordered image. -/
def px (x : FVec Ideal Img .f32) (c : Fin 512) (r s : ℕ) : EReal :=
  if h : (1 ≤ r ∧ r - 1 < 50) ∧ (1 ≤ s ∧ s - 1 < 50) then x (ix4 0 c ⟨r - 1, h.1.2⟩ ⟨s - 1, h.2.2⟩) else 0

/-- One tap of the convolution at pixel `(r, s)`: the weights at kernel position `(a, b)` against the channels of the
    bordered image there. -/
def tap (x : FVec Ideal Img .f32) (w : FVec Ideal Ker .f32) (o : Fin 512) (r s : ℕ) (a b : Fin 3) : EReal :=
  ∑ c : Fin 512, w (ix4 o c a b) * px x c (r + a.val) (s + b.val)

/-- The shared features: channel `o` of the 3×3 convolution at pixel `(r, s)`, its nine taps added row by row, with the
    bias, cut at zero. -/
def feat (x : FVec Ideal Img .f32) (w : FVec Ideal Ker .f32) (b : FVec Ideal ⟨1, ![512]⟩ .f32) (o : Fin 512) (r s : ℕ) : EReal :=
  max (tap x w o r s 0 0 + tap x w o r s 0 1 + tap x w o r s 0 2 + tap x w o r s 1 0 + tap x w o r s 1 1
    + tap x w o r s 1 2 + tap x w o r s 2 0 + tap x w o r s 2 1 + tap x w o r s 2 2 + b (ix1 o)) 0

/-- Output channel `j` of a head, a 1×1 convolution with `n` output channels, at pixel `(r, s)`. -/
def head {n : ℕ} (x : FVec Ideal Img .f32) (w : FVec Ideal Ker .f32) (b : FVec Ideal ⟨1, ![512]⟩ .f32)
    (v : FVec Ideal ⟨4, ![n, 512, 1, 1]⟩ .f32) (d : FVec Ideal ⟨1, ![n]⟩ .f32) (r s : ℕ) (j : Fin n) : EReal :=
  (∑ c : Fin 512, v (ix4 j c 0 0) * feat x w b c r s) + d (ix1 j)

end Cert.Proof.Spec

end
-- ==== Proof.RefAt.lean ====
/- What the reference computes, at an index of each result. -/
module

public import proofs.«01_k».proof.Proof.Gen.ReferenceIdeal.Run
public import proofs.«01_k».proof.Proof.Spec
public import Idealize.ShloMosaic.Lib.Pointwise

@[expose] public section

set_option maxRecDepth 16384

noncomputable section

namespace Cert.Proof.RefAt

open Idealize.ShloMosaic Idealize.ShloMosaic.TcCoe Idealize.SL.Sem
open Cert.ReferenceIdeal Cert.ReferenceIdeal.Gen Cert.ReferenceIdeal.Value
open Cert.Proof.Spec

/-- The reference's bordered image. -/
def bordered (x : FVec Ideal S1x512x50x50 .f32) : FVec Ideal S1x512x52x52 .f32 :=
  pad S1x512x52x52 ![0, 0, 1, 1] ![0, 0, 1, 1] ![0, 0, 0, 0] x (sitofp .f32 (constantI S_ 32 0#32))
    pads_S1x512x50x50_S1x512x52x52_000_000_110_110 h_S_

/-- The reference's bordered image at an index. -/
theorem bordered_at (x : FVec Ideal S1x512x50x50 .f32) (c : Fin 512) (r s : Fin 52) :
    bordered x (ix4 0 c r s) = px x c r.val s.val := by
  have hz : (FloatOps.sitofp (F := Ideal) .f32 (0#32) : EReal) = 0 := by
    simp [FloatOps.sitofp]
  unfold bordered px
  pointwise [hz]

/-- One tap of the reference: a channel product of the shifted image with one kernel position's weights. -/
def tapped (x : FVec Ideal S1x512x50x50 .f32) (w : FVec Ideal S512x512x3x3 .f32) (a d : ℕ)
    (h : S1x512x52x52.Slices ![0, 0, a, d] S1x512x50x50) (h' : S512x512x3x3.Slices ![0, 0, a, d] S512x512x1x1) :
    FVec Ideal S1x512x50x50 .f32 :=
  transpose S1x512x50x50 [0, 3, 1, 2]
    (Host.dotGeneral dot_S1x512x50x50_S512x512_S1x50x50x512_1_1_023_0_n_n none
      (extractStridedSlice S1x512x50x50 ![0, 0, a, d] (bordered x) h)
      (shapeCast S512x512 (extractStridedSlice S512x512x1x1 ![0, 0, a, d] w h') shapeCasts_S512x512x1x1_S512x512))
    transposes_S1x50x50x512_S1x512x50x50_0_3_1_2

/-- One tap of the reference at a pixel. -/
theorem tapped_at (x : FVec Ideal S1x512x50x50 .f32) (w : FVec Ideal S512x512x3x3 .f32) (a d : ℕ)
    (h : S1x512x52x52.Slices ![0, 0, a, d] S1x512x50x50) (h' : S512x512x3x3.Slices ![0, 0, a, d] S512x512x1x1)
    (a' d' : Fin 3) (ha : a'.val = a) (hd : d'.val = d) (o : Fin 512) (r s : Fin 50) :
    tapped x w a d h h' (ix4 0 o r s) = tap x w o r.val s.val a' d' := by
  subst ha hd
  unfold tapped
  generalize hB : bordered x = B
  pointwise []
  subst hB
  unfold tap
  refine Finset.sum_congr rfl fun c _ => ?_
  rw [bordered_at, mul_comm]
  exact congrArg₂ (fun i k => w (ix4 o c a' d') * px x c i k) (Nat.add_comm _ _) (Nat.add_comm _ _)

/-- The reference's features. -/
def features (x : FVec Ideal S1x512x50x50 .f32) (w : FVec Ideal S512x512x3x3 .f32) (b : FVec Ideal S512 .f32) :
    FVec Ideal S1x512x50x50 .f32 :=
  maximumf (addf (addf (addf (addf (addf (addf (addf (addf (addf (addf
    (broadcastInDim S1x512x50x50 ![] bcast_S_S1x512x50x50 (constant S_ .f32 0x00000000#32))
    (tapped x w 0 0 slices_S1x512x52x52_S1x512x50x50_0_0_0_0 slices_S512x512x3x3_S512x512x1x1_0_0_0_0))
    (tapped x w 0 1 slices_S1x512x52x52_S1x512x50x50_0_0_0_1 slices_S512x512x3x3_S512x512x1x1_0_0_0_1))
    (tapped x w 0 2 slices_S1x512x52x52_S1x512x50x50_0_0_0_2 slices_S512x512x3x3_S512x512x1x1_0_0_0_2))
    (tapped x w 1 0 slices_S1x512x52x52_S1x512x50x50_0_0_1_0 slices_S512x512x3x3_S512x512x1x1_0_0_1_0))
    (tapped x w 1 1 slices_S1x512x52x52_S1x512x50x50_0_0_1_1 slices_S512x512x3x3_S512x512x1x1_0_0_1_1))
    (tapped x w 1 2 slices_S1x512x52x52_S1x512x50x50_0_0_1_2 slices_S512x512x3x3_S512x512x1x1_0_0_1_2))
    (tapped x w 2 0 slices_S1x512x52x52_S1x512x50x50_0_0_2_0 slices_S512x512x3x3_S512x512x1x1_0_0_2_0))
    (tapped x w 2 1 slices_S1x512x52x52_S1x512x50x50_0_0_2_1 slices_S512x512x3x3_S512x512x1x1_0_0_2_1))
    (tapped x w 2 2 slices_S1x512x52x52_S1x512x50x50_0_0_2_2 slices_S512x512x3x3_S512x512x1x1_0_0_2_2))
    (broadcastInDim S1x512x50x50 ![0, 1, 2, 3] bcast_S1x512x1x1_S1x512x50x50_0_1_2_3
      (shapeCast S1x512x1x1 b shapeCasts_S512_S1x512x1x1)))
    (broadcastInDim S1x512x50x50 ![] bcast_S_S1x512x50x50 (constant S_ .f32 0x00000000#32))

/-- The reference's features at a pixel. -/
theorem features_at (x : FVec Ideal S1x512x50x50 .f32) (w : FVec Ideal S512x512x3x3 .f32) (b : FVec Ideal S512 .f32)
    (o : Fin 512) (r s : Fin 50) : features x w b (ix4 0 o r s) = feat x w b o r.val s.val := by
  unfold features
  pointwise []
  unfold feat
  refine congrArg (max · (0 : EReal)) (congrArg₂ (· + ·) ?_ rfl)
  iterate 8 refine congrArg₂ (· + ·) ?_ (tapped_at x w _ _ _ _ _ _ (by rfl) (by rfl) o r s)
  exact tapped_at x w _ _ _ _ _ _ (by rfl) (by rfl) o r s

/-- The reference's first head over any features, as it returns it. -/
def regOf (f : FVec Ideal S1x512x50x50 .f32) (v : FVec Ideal S36x512x1x1 .f32) (d : FVec Ideal S36 .f32) :
    FVec Ideal S1x22500x4 .f32 :=
  shapeCast S1x22500x4 (transpose S1x50x50x36 [0, 2, 3, 1] (addf (transpose S1x36x50x50 [0, 3, 1, 2]
    (Host.dotGeneral dot_S1x512x50x50_S36x512_S1x50x50x36_1_1_023_0_n_n none f
      (shapeCast S36x512 v shapeCasts_S36x512x1x1_S36x512)) transposes_S1x50x50x36_S1x36x50x50_0_3_1_2)
    (broadcastInDim S1x36x50x50 ![0, 1, 2, 3] bcast_S1x36x1x1_S1x36x50x50_0_1_2_3
      (shapeCast S1x36x1x1 d shapeCasts_S36_S1x36x1x1))) transposes_S1x36x50x50_S1x50x50x36_0_2_3_1)
    shapeCasts_S1x50x50x36_S1x22500x4

/-- The reference's second head over any features, as it returns it. -/
def clsOf (f : FVec Ideal S1x512x50x50 .f32) (v : FVec Ideal S18x512x1x1 .f32) (d : FVec Ideal S18 .f32) :
    FVec Ideal S1x22500x2 .f32 :=
  shapeCast S1x22500x2 (transpose S1x50x50x18 [0, 2, 3, 1] (addf (transpose S1x18x50x50 [0, 3, 1, 2]
    (Host.dotGeneral dot_S1x512x50x50_S18x512_S1x50x50x18_1_1_023_0_n_n none f
      (shapeCast S18x512 v shapeCasts_S18x512x1x1_S18x512)) transposes_S1x50x50x18_S1x18x50x50_0_3_1_2)
    (broadcastInDim S1x18x50x50 ![0, 1, 2, 3] bcast_S1x18x1x1_S1x18x50x50_0_1_2_3
      (shapeCast S1x18x1x1 d shapeCasts_S18_S1x18x1x1))) transposes_S1x18x50x50_S1x50x50x18_0_2_3_1)
    shapeCasts_S1x50x50x18_S1x22500x2

/-- The first head at an index, over the features of an image. -/
theorem regOf_at (x : FVec Ideal S1x512x50x50 .f32) (w : FVec Ideal S512x512x3x3 .f32) (b : FVec Ideal S512 .f32)
    (v : FVec Ideal S36x512x1x1 .f32) (d : FVec Ideal S36 .f32) (p : Fin 22500) (j : Fin 4) :
    regOf (features x w b) v d (ix3 0 p j)
      = head x w b v d (p.val / 450) (p.val / 9 % 50) ⟨p.val % 9 * 4 + j.val, by omega⟩ := by
  unfold regOf
  generalize hf : features x w b = f
  pointwise []
  subst hf
  unfold head
  refine congrArg₂ (· + ·) (Finset.sum_congr rfl fun c _ => ?_) rfl
  rw [features_at, mul_comm]

/-- The second head at an index, over the features of an image. -/
theorem clsOf_at (x : FVec Ideal S1x512x50x50 .f32) (w : FVec Ideal S512x512x3x3 .f32) (b : FVec Ideal S512 .f32)
    (v : FVec Ideal S18x512x1x1 .f32) (d : FVec Ideal S18 .f32) (p : Fin 22500) (j : Fin 2) :
    clsOf (features x w b) v d (ix3 0 p j)
      = head x w b v d (p.val / 450) (p.val / 9 % 50) ⟨p.val % 9 * 2 + j.val, by omega⟩ := by
  unfold clsOf
  generalize hf : features x w b = f
  pointwise []
  subst hf
  unfold head
  refine congrArg₂ (· + ·) (Finset.sum_congr rfl fun c _ => ?_) rfl
  rw [features_at, mul_comm]

variable (m : (ℓ : Loc nD τ sig) → Buf (Elt Ideal) ℓ) (c : Dev nD)

/-- The reference's first result is its first head over the features of its arguments. -/
theorem reg_eq : res_main_v74 m c
    = regOf (features (m ((c.tc : Thread nD τ).loc main_arg0)) (m ((c.tc : Thread nD τ).loc main_arg1))
      (m ((c.tc : Thread nD τ).loc main_arg2))) (m ((c.tc : Thread nD τ).loc main_arg5))
      (m ((c.tc : Thread nD τ).loc main_arg6)) := rfl

/-- The reference's second result is its second head over the features of its arguments. -/
theorem cls_eq : res_main_v76 m c
    = clsOf (features (m ((c.tc : Thread nD τ).loc main_arg0)) (m ((c.tc : Thread nD τ).loc main_arg1))
      (m ((c.tc : Thread nD τ).loc main_arg2))) (m ((c.tc : Thread nD τ).loc main_arg3))
      (m ((c.tc : Thread nD τ).loc main_arg4)) := rfl

end Cert.Proof.RefAt

end
-- ==== Proof.Rows.lean ====
/- The rows the kernel keeps: of the 2600 columns it computes, 52 to an image row, the first 50 of each. -/
module

public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Rows

open Idealize.ShloMosaic Idealize.ShloMosaic.TcCoe Idealize.SL.Sem
open Cert.KernelIdeal Cert.KernelIdeal.Gen

/-- The 50 rows from row `52 * n` lie inside the 2600. -/
theorem fits (n : Fin 50) : S2600x54.Slices ![52 * n.val, 0] S50x54 := by
  revert n; decide

/-- The rows of one image row, without the two columns past its end. -/
def band (g : FVec Ideal S2600x54 .f32) (n : Fin 50) : FVec Ideal S50x54 .f32 :=
  extractStridedSlice S50x54 ![52 * n.val, 0] g (fits n)

/-- Row `k` of band `n` is row `52 * n + k` of the whole. -/
theorem band_at (g : FVec Ideal S2600x54 .f32) (n k : Fin 50) (j : Fin 54) :
    band g n (ix2 k j) = g (ix2 ⟨52 * n.val + k.val, by omega⟩ j) := by
  pointwise [band]

/-- Fifty bands make up the 2500 rows. -/
theorem bands_fit : Shape.Concatenates (List.ofFn fun _ : Fin 50 => S50x54) S2500x54 0 := by
  decide

/-- The kernel's 2500 rows are the bands of the 2600 in order. -/
theorem kept (x0 : Vec Ideal S512x2756 .bf16) (x1 : Vec Ideal S9x512x512 .bf16) (x2 : Vec Ideal S36x512 .f32)
    (x3 : Vec Ideal S18x512 .f32) (x4 : Vec Ideal S1x512 .f32) (x5 : Vec Ideal S1x36 .f32) (x6 : Vec Ideal S1x18 .f32)
    (h : Shape.Concatenates ((List.ofFn fun n : Fin 50 => (⟨S50x54, band (k0_pay8 (k0_pay43 x0 x1 x2 x3 x4 x5 x6) (View.ld x2 r0_19)
          (View.ld x3 r0_20) (View.ld x5 r0_21) (View.ld x6 r0_22)) n⟩ : (s : Shape) × (s.Idx → EReal))).map (·.1)) S2500x54 0) :
    k0_pay44 x0 x1 x2 x3 x4 x5 x6
      = concatenate S2500x54 0 (List.ofFn fun n : Fin 50 =>
        ⟨S50x54, band (k0_pay8 (k0_pay43 x0 x1 x2 x3 x4 x5 x6) (View.ld x2 r0_19)
          (View.ld x3 r0_20) (View.ld x5 r0_21) (View.ld x6 r0_22)) n⟩) h := by
  unfold k0_pay44 k0_pay1
  unfold k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42
  dsimp only
  generalize k0_pay8 (k0_pay43 x0 x1 x2 x3 x4 x5 x6) (View.ld x2 r0_19) (View.ld x3 r0_20) (View.ld x5 r0_21)
    (View.ld x6 r0_22) = g at h ⊢
  rfl

/-- Row `p` the kernel keeps is column `p % 50` of image row `p / 50`. -/
theorem kept_at (x0 : Vec Ideal S512x2756 .bf16) (x1 : Vec Ideal S9x512x512 .bf16) (x2 : Vec Ideal S36x512 .f32)
    (x3 : Vec Ideal S18x512 .f32) (x4 : Vec Ideal S1x512 .f32) (x5 : Vec Ideal S1x36 .f32) (x6 : Vec Ideal S1x18 .f32)
    (p : Fin 2500) (j : Fin 54) :
    k0_pay44 x0 x1 x2 x3 x4 x5 x6 (ix2 p j)
      = k0_pay8 (k0_pay43 x0 x1 x2 x3 x4 x5 x6) (View.ld x2 r0_19) (View.ld x3 r0_20) (View.ld x5 r0_21)
          (View.ld x6 r0_22) (ix2 ⟨52 * (p.val / 50) + p.val % 50, by omega⟩ j) := by
  rw [kept x0 x1 x2 x3 x4 x5 x6 (by rw [List.map_ofFn]; exact bands_fit)]
  refine (concatenate_ofFn_apply (t := S2500x54) (s₁ := S50x54) 0 _ _ rfl 50 rfl (ix2 p j) ⟨p.val / 50, by omega⟩ rfl
    (ix2 ⟨p.val % 50, Nat.mod_lt _ (by decide)⟩ j) rfl ?_).trans (band_at _ _ _ _)
  intro b hb
  match b with
  | 0 => exact absurd rfl hb
  | 1 => rfl

end Cert.Proof.Rows

end
-- ==== Proof.Conv.lean ====
/- What the kernel's body computes from its operands: the features at every column of the widened image, and the two
   heads over them, one row per column. -/
module

public import proofs.«01_k».proof.Proof.Gen.KernelIdeal.Frame
public import proofs.«01_k».proof.Proof.Spec
public import proofs.«01_k».proof.Proof.Rows
public import Idealize.ShloMosaic.Lib.Pointwise
public import Idealize.ShloMosaic.Lib.Pipeline.ValueKit

@[expose] public section

set_option maxRecDepth 16384

noncomputable section

namespace Cert.Proof.Conv

open Idealize.ShloMosaic Idealize.ShloMosaic.TcCoe Idealize.SL.Sem
open Cert.KernelIdeal Cert.KernelIdeal.Gen
open Cert.Proof.Spec

/-- The body's operands hold the arguments: the bordered image flattened with 52 columns to a row, the 3×3 weights by
    kernel position, and the biases and 1×1 weights as matrices. -/
structure Holds (x0 : Vec Ideal S512x2756 .bf16) (x1 : Vec Ideal S9x512x512 .bf16) (x2 : Vec Ideal S36x512 .f32)
    (x3 : Vec Ideal S18x512 .f32) (x4 : Vec Ideal S1x512 .f32) (x5 : Vec Ideal S1x36 .f32) (x6 : Vec Ideal S1x18 .f32)
    (x : FVec Ideal Img .f32) (w : FVec Ideal Ker .f32) (b : FVec Ideal ⟨1, ![512]⟩ .f32)
    (vc : FVec Ideal ⟨4, ![18, 512, 1, 1]⟩ .f32) (dc : FVec Ideal ⟨1, ![18]⟩ .f32)
    (vr : FVec Ideal ⟨4, ![36, 512, 1, 1]⟩ .f32) (dr : FVec Ideal ⟨1, ![36]⟩ .f32) : Prop where
  img : ∀ (c : Fin 512) (q : Fin 2756) (r s : ℕ), q.val = 52 * r + s → s < 52 → x0 (ix2 c q) = px x c r s
  ker : ∀ (t : Fin 9) (c o : Fin 512) (a d : Fin 3), t.val = 3 * a.val + d.val → x1 (ix3 t c o) = w (ix4 o c a d)
  reg : ∀ (j : Fin 36) (c : Fin 512), x2 (ix2 j c) = vr (ix4 j c 0 0)
  cls : ∀ (j : Fin 18) (c : Fin 512), x3 (ix2 j c) = vc (ix4 j c 0 0)
  bias : ∀ o : Fin 512, x4 (ix2 0 o) = b (ix1 o)
  regBias : ∀ j : Fin 36, x5 (ix2 0 j) = dr (ix1 j)
  clsBias : ∀ j : Fin 18, x6 (ix2 0 j) = dc (ix1 j)

variable {x0 : Vec Ideal S512x2756 .bf16} {x1 : Vec Ideal S9x512x512 .bf16} {x2 : Vec Ideal S36x512 .f32}
  {x3 : Vec Ideal S18x512 .f32} {x4 : Vec Ideal S1x512 .f32} {x5 : Vec Ideal S1x36 .f32} {x6 : Vec Ideal S1x18 .f32}
  {x : FVec Ideal Img .f32} {w : FVec Ideal Ker .f32} {b : FVec Ideal ⟨1, ![512]⟩ .f32}
  {vc : FVec Ideal ⟨4, ![18, 512, 1, 1]⟩ .f32} {dc : FVec Ideal ⟨1, ![18]⟩ .f32}
  {vr : FVec Ideal ⟨4, ![36, 512, 1, 1]⟩ .f32} {dr : FVec Ideal ⟨1, ![36]⟩ .f32}

/-- One tap of the kernel: the weights at kernel position `(a, d)` against the columns shifted by `52 * a + d`. -/
theorem tap_at (h : Holds x0 x1 x2 x3 x4 x5 x6 x w b vc dc vr dr) (o : Fin 512) (r s : ℕ) (hs : s < 50) (t : Fin 9)
    (a d : Fin 3) (ht : t.val = 3 * a.val + d.val) (q : Fin 2756) (hq : q.val = 52 * (r + a.val) + (s + d.val)) :
    (∑ c : Fin 512, (x1 (ix3 t c o) : EReal) * x0 (ix2 c q)) = tap x w o r s a d :=
  Finset.sum_congr rfl fun c _ => by
    rw [h.ker t c o a d ht, h.img c q (r + a.val) (s + d.val) hq (by omega)]

/-- The features at the column of pixel `(r, s)` are the convolution's there. -/
theorem feats_at (h : Holds x0 x1 x2 x3 x4 x5 x6 x w b vc dc vr dr) (o : Fin 512) (r s : ℕ) (hs : s < 50) (q : Fin 2600)
    (hq : q.val = 52 * r + s) : k0_pay43 x0 x1 x2 x3 x4 x5 x6 (ix2 o q) = feat x w b o r s := by
  unfold k0_pay43
  pointwise [k0_pay4, k0_pay5, k0_pay6, k0_pay7]
  unfold feat
  refine congrArg (max · (0 : EReal)) (congrArg₂ (· + ·) ?_ (h.bias o))
  iterate 8 refine congrArg₂ (· + ·) ?_ (tap_at h o r s hs _ _ _ (by rfl) _ (by simp; omega))
  exact tap_at h o r s hs _ _ _ (by rfl) _ (by simp; omega)

/-- The first 36 columns of the heads' rows, over any features. -/
theorem heads_reg (f : FVec Ideal S512x2600 .f32) (x2 : Vec Ideal S36x512 .f32) (x3 : Vec Ideal S18x512 .f32)
    (x5 : Vec Ideal S1x36 .f32) (x6 : Vec Ideal S1x18 .f32) (q : Fin 2600) (j : Fin 36) :
    k0_pay8 f (View.ld x2 r0_19) (View.ld x3 r0_20) (View.ld x5 r0_21) (View.ld x6 r0_22) (ix2 q ⟨j.val, by omega⟩)
      = (∑ c : Fin 512, (x2 (ix2 j c) : EReal) * f (ix2 c q)) + x5 (ix2 0 j) := by
  have hk' : j.val < 36 := j.isLt
  pointwise [k0_pay8, hk']

/-- The last 18 columns of the heads' rows, over any features. -/
theorem heads_cls (f : FVec Ideal S512x2600 .f32) (x2 : Vec Ideal S36x512 .f32) (x3 : Vec Ideal S18x512 .f32)
    (x5 : Vec Ideal S1x36 .f32) (x6 : Vec Ideal S1x18 .f32) (q : Fin 2600) (j : Fin 18) :
    k0_pay8 f (View.ld x2 r0_19) (View.ld x3 r0_20) (View.ld x5 r0_21) (View.ld x6 r0_22) (ix2 q ⟨36 + j.val, by omega⟩)
      = (∑ c : Fin 512, (x3 (ix2 j c) : EReal) * f (ix2 c q)) + x6 (ix2 0 j) := by
  have hk' : ¬ 36 + j.val < 36 := by omega
  pointwise [k0_pay8, hk']

/-- What the kernel stores for the first head, at the row of pixel `(p / 50, p % 50)`. -/
theorem reg_at (h : Holds x0 x1 x2 x3 x4 x5 x6 x w b vc dc vr dr) (p : Fin 2500) (j : Fin 36) :
    k0_pay2 (k0_pay44 x0 x1 x2 x3 x4 x5 x6) (ix2 p j) = head x w b vr dr (p.val / 50) (p.val % 50) j := by
  have e : k0_pay2 (k0_pay44 x0 x1 x2 x3 x4 x5 x6) (ix2 p j) = k0_pay44 x0 x1 x2 x3 x4 x5 x6 (ix2 p ⟨j.val, by omega⟩) := by
    generalize k0_pay44 x0 x1 x2 x3 x4 x5 x6 = g
    pointwise [k0_pay2]
  rw [e, Rows.kept_at, heads_reg _ x2 x3 x5 x6 _ j, h.regBias]
  unfold head
  refine congrArg (· + _) (Finset.sum_congr rfl fun c _ => ?_)
  rw [h.reg, feats_at h c (p.val / 50) (p.val % 50) (by omega) _ rfl]

/-- What the kernel stores for the second head, at the row of pixel `(p / 50, p % 50)`. -/
theorem cls_at (h : Holds x0 x1 x2 x3 x4 x5 x6 x w b vc dc vr dr) (p : Fin 2500) (j : Fin 18) :
    k0_pay3 (k0_pay44 x0 x1 x2 x3 x4 x5 x6) (ix2 p j) = head x w b vc dc (p.val / 50) (p.val % 50) j := by
  have e : k0_pay3 (k0_pay44 x0 x1 x2 x3 x4 x5 x6) (ix2 p j)
      = k0_pay44 x0 x1 x2 x3 x4 x5 x6 (ix2 p ⟨36 + j.val, by omega⟩) := by
    generalize k0_pay44 x0 x1 x2 x3 x4 x5 x6 = g
    pointwise [k0_pay3]
  rw [e, Rows.kept_at, heads_cls _ x2 x3 x5 x6 _ j, h.clsBias]
  unfold head
  refine congrArg (· + _) (Finset.sum_congr rfl fun c _ => ?_)
  rw [h.cls, feats_at h c (p.val / 50) (p.val % 50) (by omega) _ rfl]

end Cert.Proof.Conv

end
-- ==== Proof.Entry.lean ====
/- What the kernel's body finds in its operands, and what the two result arrays of its region end holding. -/
module

public import proofs.«01_k».proof.Proof.Gen.KernelIdeal.Frame
public import proofs.«01_k».proof.Proof.Spec
public import proofs.«01_k».proof.Proof.Conv
public import Idealize.ShloMosaic.Lib.Pointwise
public import Idealize.ShloMosaic.Lib.Pipeline.ValueKit
public import Idealize.ShloMosaic.Lib.WordCmp
public import Idealize.ShloMosaic.Lib.StableHlo.Run
public import Idealize.ShloMosaic.Lib.StableHlo.RunClose

@[expose] public section

set_option maxRecDepth 16384

noncomputable section

namespace Cert.Proof.Entry

open Idealize.ShloMosaic Idealize.ShloMosaic.TcCoe Idealize.SL.Sem
open Cert.KernelIdeal Cert.KernelIdeal.Gen
open Cert.Proof.Spec

/-- The place the image is written at: one row down and one column in. -/
def start : Fin 3 → Int := fun k =>
  ((![constantI S_ 32 0#32, constantI S_ 32 1#32, constantI S_ 32 1#32] : Fin 3 → S_.Idx → BitVec 32) k (Shape.Idx.first h_S_)).toInt

/-- The kernel's widened image: the image written one row down and one column into zeros, its rows end to end. -/
def widened (x : FVec Ideal S1x512x50x50 .f32) : FVec Ideal S512x2756 .bf16 :=
  shapeCast S512x2756 (Host.dynamicUpdateSlice
    (broadcastInDim S512x53x52 ![] bcast_S_S512x53x52 (constant (F := Ideal) S_ .bf16 0x0000#16))
    (truncf .bf16 (shapeCast S512x50x50 x shapeCasts_S1x512x50x50_S512x50x50) bitsLt_bf16_f32)
    start updateFits_S512x53x52_S512x50x50) shapeCasts_S512x53x52_S512x2756

/-- The widened image at a column is the bordered image at the column's pixel. -/
theorem widened_at (x : FVec Ideal S1x512x50x50 .f32) (c : Fin 512) (q : Fin 2756) (r s : ℕ) (h : q.val = 52 * r + s)
    (hs : s < 52) : widened x (ix2 c q) = px x c r s := by
  have h0 : Host.clampedStart S512x53x52 S512x50x50 updateFits_S512x53x52_S512x50x50.1 start 0 = 0 :=
    Host.clampedStart_of_le _ _ _ 0 (by decide) (by decide)
  have h1 : Host.clampedStart S512x53x52 S512x50x50 updateFits_S512x53x52_S512x50x50.1 start 1 = 1 :=
    Host.clampedStart_of_le _ _ _ 1 (by decide) (by decide)
  have h2 : Host.clampedStart S512x53x52 S512x50x50 updateFits_S512x53x52_S512x50x50.1 start 2 = 1 :=
    Host.clampedStart_of_le _ _ _ 1 (by decide) (by decide)
  obtain rfl : r = q.val / 52 := by omega
  obtain rfl : s = q.val % 52 := by omega
  have e : ∀ n : ℕ, n < 51 ↔ n - 1 < 50 := fun n => by omega
  unfold widened px
  pointwise [h0, h1, h2]
  simp only [e]

/-- The kernel's weights by kernel position: position, input channel, output channel. -/
def byPos (w : FVec Ideal S512x512x3x3 .f32) : FVec Ideal S9x512x512 .bf16 :=
  transpose S9x512x512 [2, 1, 0] (shapeCast S512x512x9 (truncf .bf16 w bitsLt_bf16_f32) shapeCasts_S512x512x3x3_S512x512x9)
    transposes_S512x512x9_S9x512x512_2_1_0

/-- The weights by kernel position, read. -/
theorem byPos_at (w : FVec Ideal S512x512x3x3 .f32) (t : Fin 9) (c o : Fin 512) (a d : Fin 3) (ht : t.val = 3 * a.val + d.val) :
    byPos w (ix3 t c o) = w (ix4 o c a d) := by
  unfold byPos
  pointwise []
  exact congrArg₂ (fun i k => w (ix4 o c i k)) (Fin.ext (by simp only; omega)) (Fin.ext (by simp only; omega))

variable (m : (ℓ : Loc nD τ sig) → Buf (Elt Ideal) ℓ) (c : Dev nD)

/-- The first operand is the widened image. -/
theorem V_img : V m c main_v4 = widened (m ((c.tc : Thread nD τ).loc main_arg0)) := by
  show StableHlo.after hostOps0 _ _ = _
  after_results_simp_entrywise
  rfl

/-- The second operand is the weights by kernel position. -/
theorem V_ker : V m c main_v7 = byPos (m ((c.tc : Thread nD τ).loc main_arg1)) := by
  show StableHlo.after hostOps0 _ _ = _
  after_results_simp_entrywise
  rfl

/-- Every window's block is at the origin of its array. -/
theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

/-- The body's operands hold the arguments. -/
theorem holds : Conv.Holds (iblk m c 0 t0_0) (iblk m c 1 t0_0) (iblk m c 2 t0_0) (iblk m c 3 t0_0) (iblk m c 4 t0_0)
    (iblk m c 5 t0_0) (iblk m c 6 t0_0) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) where
  img k q r s h hs := by
    have e : iblk m c 0 t0_0 = V m c main_v4 := by
      unfold iblk
      generalize V m c (Pipeline.arrRef spec0 0) = A
      blk_ext! [idx t0_0]
    rw [e, V_img]
    exact widened_at _ k q r s h hs
  ker t k o a d h := by
    have e : iblk m c 1 t0_0 = V m c main_v7 := by
      unfold iblk
      generalize V m c (Pipeline.arrRef spec0 1) = A
      blk_ext! [idx t0_0]
    rw [e, V_ker]
    exact byPos_at _ t k o a d h
  reg j k := by
    have e : iblk m c 2 t0_0 = V m c main_v8 := by
      unfold iblk
      generalize V m c (Pipeline.arrRef spec0 2) = A
      blk_ext! [idx t0_0]
    rw [e]
    show StableHlo.after hostOps0 _ _ _ = _
    after_results_simp_entrywise
    pointwise []
  cls j k := by
    have e : iblk m c 3 t0_0 = V m c main_v9 := by
      unfold iblk
      generalize V m c (Pipeline.arrRef spec0 3) = A
      blk_ext! [idx t0_0]
    rw [e]
    show StableHlo.after hostOps0 _ _ _ = _
    after_results_simp_entrywise
    pointwise []
  bias o := by
    have e : iblk m c 4 t0_0 = V m c main_v10 := by
      unfold iblk
      generalize V m c (Pipeline.arrRef spec0 4) = A
      blk_ext! [idx t0_0]
    rw [e]
    show StableHlo.after hostOps0 _ _ _ = _
    after_results_simp_entrywise
    pointwise []
  regBias j := by
    have e : iblk m c 5 t0_0 = V m c main_v11 := by
      unfold iblk
      generalize V m c (Pipeline.arrRef spec0 5) = A
      blk_ext! [idx t0_0]
    rw [e]
    show StableHlo.after hostOps0 _ _ _ = _
    after_results_simp_entrywise
    pointwise []
  clsBias j := by
    have e : iblk m c 6 t0_0 = V m c main_v12 := by
      unfold iblk
      generalize V m c (Pipeline.arrRef spec0 6) = A
      blk_ext! [idx t0_0]
    rw [e]
    show StableHlo.after hostOps0 _ _ _ = _
    after_results_simp_entrywise
    pointwise []

/-- The first result array of the region ends at the first head, one row per pixel. -/
theorem reg_final : (dats m 0 c).arrAt 7 (cfgs 0).N = k0_pay2 (k0_pay44 (iblk m c 0 t0_0) (iblk m c 1 t0_0) (iblk m c 2 t0_0)
    (iblk m c 3 t0_0) (iblk m c 4 t0_0) (iblk m c 5 t0_0) (iblk m c 6 t0_0)) := by
  refine (dats m 0 c).arrAt_eq_of_after_last 7 t0_0 (by decide +kernel) _ fun j => ?_
  blk_simp
  rw [after0_7]
  frame_out

/-- The second result array of the region ends at the second head, one row per pixel. -/
theorem cls_final : (dats m 0 c).arrAt 8 (cfgs 0).N = k0_pay3 (k0_pay44 (iblk m c 0 t0_0) (iblk m c 1 t0_0) (iblk m c 2 t0_0)
    (iblk m c 3 t0_0) (iblk m c 4 t0_0) (iblk m c 5 t0_0) (iblk m c 6 t0_0)) := by
  refine (dats m 0 c).arrAt_eq_of_after_last 8 t0_0 (by decide +kernel) _ fun j => ?_
  blk_simp
  rw [after0_8]
  frame_out

end Cert.Proof.Entry

end
-- ==== Proof.Final.lean ====
/- The two results of the kernel, entry by entry. -/
module

public import proofs.«01_k».proof.Proof.Entry

@[expose] public section

set_option maxRecDepth 16384

noncomputable section

namespace Cert.Proof.Final

open Idealize.ShloMosaic Idealize.ShloMosaic.TcCoe Idealize.SL.Sem
open Cert.KernelIdeal Cert.KernelIdeal.Gen
open Cert.Proof.Spec

/-- Row `p` of the first result holds the 4 channels of anchor `p % 9` at pixel `p / 9`. -/
theorem reg_rows (y : FVec Ideal S2500x36 .f32) (p : Fin 22500) (j : Fin 4) :
    shapeCast S1x22500x4 y shapeCasts_S2500x36_S1x22500x4 (ix3 0 p j)
      = y (ix2 ⟨p.val / 9, by omega⟩ ⟨p.val % 9 * 4 + j.val, by omega⟩) := by
  pointwise []

/-- Row `p` of the second result holds the 2 channels of anchor `p % 9` at pixel `p / 9`. -/
theorem cls_rows (y : FVec Ideal S2500x18 .f32) (p : Fin 22500) (j : Fin 2) :
    shapeCast S1x22500x2 y shapeCasts_S2500x18_S1x22500x2 (ix3 0 p j)
      = y (ix2 ⟨p.val / 9, by omega⟩ ⟨p.val % 9 * 2 + j.val, by omega⟩) := by
  pointwise []

variable (m : (ℓ : Loc nD τ sig) → Buf (Elt Ideal) ℓ) (c : Dev nD)

/-- The nine windows are on nine different arrays. -/
theorem arrays_differ : Function.Injective (Pipeline.arrRef spec0) := by decide

/-- The first result ends as the region's first result array, one row per anchor. -/
theorem reg_tail : Pipeline.afterTail₀ cfgs (dats m) 0 (V0 m) [hostOps1] c main_v14
    = shapeCast S1x22500x4 ((dats m 0 c).arrAt 7 (cfgs 0).N) shapeCasts_S2500x36_S1x22500x4 := by
  unfold Pipeline.afterTail₀
  show StableHlo.after hostOps1 _ _ = _
  after_results_simp_entrywise
  exact congrArg (fun y => shapeCast S1x22500x4 y shapeCasts_S2500x36_S1x22500x4)
    (Pipeline.withArrays_arr spec0 arrays_differ c (V0 m c) (fun w => (dats m 0 c).arrAt w (cfgs 0).N) 7)

/-- The second result ends as the region's second result array, one row per anchor. -/
theorem cls_tail : Pipeline.afterTail₀ cfgs (dats m) 0 (V0 m) [hostOps1] c main_v15
    = shapeCast S1x22500x2 ((dats m 0 c).arrAt 8 (cfgs 0).N) shapeCasts_S2500x18_S1x22500x2 := by
  unfold Pipeline.afterTail₀
  show StableHlo.after hostOps1 _ _ = _
  after_results_simp_entrywise
  exact congrArg (fun y => shapeCast S1x22500x2 y shapeCasts_S2500x18_S1x22500x2)
    (Pipeline.withArrays_arr spec0 arrays_differ c (V0 m c) (fun w => (dats m 0 c).arrAt w (cfgs 0).N) 8)

/-- The kernel's first result at row `p` and channel `j` is the regression head there. -/
theorem reg_at (p : Fin 22500) (j : Fin 4) :
    Pipeline.afterTail₀ cfgs (dats m) 0 (V0 m) [hostOps1] c main_v14 (ix3 0 p j)
      = head (m ((c.tc : Thread nD τ).loc main_arg0)) (m ((c.tc : Thread nD τ).loc main_arg1))
          (m ((c.tc : Thread nD τ).loc main_arg2)) (m ((c.tc : Thread nD τ).loc main_arg5))
          (m ((c.tc : Thread nD τ).loc main_arg6)) (p.val / 450) (p.val / 9 % 50)
          (⟨p.val % 9 * 4 + j.val, by omega⟩ : Fin 36) := by
  rw [reg_tail, Entry.reg_final]
  refine (reg_rows _ p j).trans ((Conv.reg_at (Entry.holds m c) _ _).trans ?_)
  simp only [Nat.div_div_eq_div_mul]

/-- The kernel's second result at row `p` and channel `j` is the classification head there. -/
theorem cls_at (p : Fin 22500) (j : Fin 2) :
    Pipeline.afterTail₀ cfgs (dats m) 0 (V0 m) [hostOps1] c main_v15 (ix3 0 p j)
      = head (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (p.val / 450) (p.val / 9 % 50)
          (⟨p.val % 9 * 2 + j.val, by omega⟩ : Fin 18) := by
  rw [cls_tail, Entry.cls_final]
  refine (cls_rows _ p j).trans ((Conv.cls_at (Entry.holds m c) _ _).trans ?_)
  simp only [Nat.div_div_eq_div_mul]

end Cert.Proof.Final

end
-- ==== Proof.lean ====
/- The five claims about the region proposal network's head: the three programs run and leave their arguments as they
   were, and kernel and reference compute the same two results over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefAt
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference leaves its arguments as they were, and has no semaphores. -/
theorem reference_frame : Cert.quiescent_ReferenceIdeal := by
  intro m g _
  refine (θ_run _ _ _).mono (fun r h => ⟨fun c => (h c).2.2, sem_eq_zero_of_no_sems (by decide) r.2⟩)
    (Cert.ReferenceIdeal.Value.run m g)

/-- From equal arguments, the reference's first result is the kernel's. -/
theorem reg_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h5 : m' (c.tc.loc ReferenceIdeal.main_arg5) = m (c.tc.loc KernelIdeal.main_arg5))
    (h6 : m' (c.tc.loc ReferenceIdeal.main_arg6) = m (c.tc.loc KernelIdeal.main_arg6)) :
    ReferenceIdeal.Value.res_main_v74 m' c
      = Pipeline.afterTail₀ KernelIdeal.cfgs (KernelIdeal.Gen.dats m) 0 (KernelIdeal.Gen.V0 m) [KernelIdeal.Gen.hostOps1] c
          KernelIdeal.main_v14 := by
  rw [RefAt.reg_eq, h0, h1, h2, h5, h6]
  funext i
  obtain ⟨p, j, rfl⟩ : ∃ p j, i = ix3 0 p j := ⟨i 1, i 2, (eq_ix3 i).trans (congrArg (ix3 · (i 1) (i 2)) (Subsingleton.elim _ _))⟩
  exact (RefAt.regOf_at _ _ _ _ _ p j).trans (Final.reg_at m c p j).symm

/-- From equal arguments, the reference's second result is the kernel's. -/
theorem cls_same (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4)) :
    ReferenceIdeal.Value.res_main_v76 m' c
      = Pipeline.afterTail₀ KernelIdeal.cfgs (KernelIdeal.Gen.dats m) 0 (KernelIdeal.Gen.V0 m) [KernelIdeal.Gen.hostOps1] c
          KernelIdeal.main_v15 := by
  rw [RefAt.cls_eq, h0, h1, h2, h3, h4]
  funext i
  obtain ⟨p, j, rfl⟩ : ∃ p j, i = ix3 0 p j := ⟨i 1, i 2, (eq_ix3 i).trans (congrArg (ix3 · (i 1) (i 2)) (Subsingleton.elim _ _))⟩
  exact (RefAt.clsOf_at _ _ _ _ _ p j).trans (Final.cls_at m c p j).symm

/-- Over the extended reals, kernel and reference end with equal results and unchanged arguments. -/
theorem algebraic : Cert.algebraic_KernelIdeal_ReferenceIdeal := by
  pair_intro
  · run_from Cert.KernelIdeal.Gen.run_main m g
    · exact KernelIdeal.Gen.W_main_arg0 m _ c
    · exact KernelIdeal.Gen.W_main_arg1 m _ c
    · exact KernelIdeal.Gen.W_main_arg2 m _ c
    · exact KernelIdeal.Gen.W_main_arg3 m _ c
    · exact KernelIdeal.Gen.W_main_arg4 m _ c
    · exact KernelIdeal.Gen.W_main_arg5 m _ c
    · exact KernelIdeal.Gen.W_main_arg6 m _ c
  · run_from Cert.ReferenceIdeal.Value.run m' g'
    · obtain ⟨h0, h1, h2, _, _, h5, h6⟩ := hagree c
      exact reg_same m m' c h0 h1 h2 h5 h6
    · obtain ⟨h0, h1, h2, h3, h4, _, _⟩ := hagree c
      exact cls_same m m' c h0 h1 h2 h3 h4

/-- The five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame, trivial, algebraic⟩

end Cert.Proof

end
